-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "edge1" .f32 0x3DCCCCCD#32 ((1 / 10 : ℝ) : EReal)
  ∧ IdealRules.named_const.Statement Cert.KernelIdeal.κ "edge2" .f32 0x3E4CCCCD#32 ((1 / 5 : ℝ) : EReal)
  ∧ IdealRules.named_const.Statement Cert.KernelIdeal.κ "edge3" .f32 0x3E99999A#32 ((3 / 10 : ℝ) : EReal)
  ∧ IdealRules.named_const.Statement Cert.KernelIdeal.κ "edge4" .f32 0x3ECCCCCD#32 ((2 / 5 : ℝ) : EReal)
  ∧ IdealRules.named_const.Statement Cert.KernelIdeal.κ "edge6" .f32 0x3F19999A#32 ((3 / 5 : ℝ) : EReal)
  ∧ IdealRules.named_const.Statement Cert.KernelIdeal.κ "edge7" .f32 0x3F333333#32 ((7 / 10 : ℝ) : EReal)
  ∧ IdealRules.named_const.Statement Cert.KernelIdeal.κ "edge8" .f32 0x3F4CCCCD#32 ((4 / 5 : ℝ) : EReal)
  ∧ IdealRules.named_const.Statement Cert.KernelIdeal.κ "edge9" .f32 0x3F666666#32 ((9 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S1x1 : Shape := ⟨2, ![1, 1]⟩
abbrev S512x1000 : Shape := ⟨2, ![512, 1000]⟩
abbrev S2x10 : Shape := ⟨2, ![2, 10]⟩
abbrev S1x512x1000 : Shape := ⟨3, ![1, 512, 1000]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 4
  | .smem => 2
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S1x1, .f32⟩
  | .hbm, ⟨4, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .smem, ⟨0, _⟩ => ⟨S1x1, .f32⟩
  | .local _ .smem, ⟨1, _⟩ => ⟨S2x10, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v217 : BitVec 1 := Scalar.cmpi .eq arg0 c31_i32
  let v218 : BitVec 32 := Scalar.extui v217
  let c0_i32_116 : BitVec 32 := 0#32
  let v219 : BitVec 1 := Scalar.cmpi .ne v218 c0_i32_116
  v219

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "edge1" => some ((1 / 10 : ℝ) : EReal)
  | "edge2" => some ((1 / 5 : ℝ) : EReal)
  | "edge3" => some ((3 / 10 : ℝ) : EReal)
  | "edge4" => some ((2 / 5 : ℝ) : EReal)
  | "edge6" => some ((3 / 5 : ℝ) : EReal)
  | "edge7" => some ((7 / 10 : ℝ) : EReal)
  | "edge8" => some ((4 / 5 : ℝ) : EReal)
  | "edge9" => some ((9 / 10 : ℝ) : EReal)
  | _ => none
-- ==== ReferenceIdeal.lean ====
abbrev S16384x1000 : Shape := ⟨2, ![16384, 1000]⟩
abbrev S11 : Shape := ⟨1, ![11]⟩
abbrev S_ : Shape := ⟨0, ![]⟩
abbrev S1 : Shape := ⟨1, ![1]⟩

abbrev nBuf : Space → Nat
  | .hbm => 317
  | .vmem => 0
  | .smem => 0
  | _ => 0

abbrev hbmTy0_0 (i : Nat) : BufTy := match i % 128 with
  | 0 => ⟨S16384x1000, .f32⟩
  | 1 => ⟨S16384x1000, .f32⟩
  | 2 => ⟨S16384x1000, .f32⟩
  | 3 => ⟨S11, .f32⟩
  | 4 => ⟨S_, .f32⟩
  | 5 => ⟨S11, .f32⟩
  | 6 => ⟨S11, .f32⟩
  | 7 => ⟨S_, .i32⟩
  | 8 => ⟨S1, .i32⟩
  | 9 => ⟨S_, .f32⟩
  | 10 => ⟨S11, .f32⟩
  | 11 => ⟨S_, .f32⟩
  | 12 => ⟨S16384x1000, .f32⟩
  | 13 => ⟨S_, .f32⟩
  | 14 => ⟨S16384x1000, .f32⟩
  | 15 => ⟨S16384x1000, .f32⟩
  | 16 => ⟨S16384x1000, .f32⟩
  | 17 => ⟨S_, .f32⟩
  | 18 => ⟨S16384x1000, .f32⟩
  | 19 => ⟨S16384x1000, .i1⟩
  | 20 => ⟨S16384x1000, .f32⟩
  | 21 => ⟨S_, .f32⟩
  | 22 => ⟨S_, .f32⟩
  | 23 => ⟨S_, .f32⟩
  | 24 => ⟨S_, .f32⟩
  | 25 => ⟨S1, .f32⟩
  | 26 => ⟨S_, .f32⟩
  | 27 => ⟨S16384x1000, .f32⟩
  | 28 => ⟨S16384x1000, .i1⟩
  | 29 => ⟨S1, .f32⟩
  | 30 => ⟨S_, .f32⟩
  | 31 => ⟨S16384x1000, .f32⟩
  | 32 => ⟨S16384x1000, .i1⟩
  | 33 => ⟨S16384x1000, .i1⟩
  | 34 => ⟨S16384x1000, .i1⟩
  | 35 => ⟨S16384x1000, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S16384x1000, .i1⟩
  | 44 => ⟨S16384x1000, .i1⟩
  | 45 => ⟨S16384x1000, .f32⟩
  | 46 => ⟨S16384x1000, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1, .f32⟩
  | 54 => ⟨S_, .f32⟩
  | 55 => ⟨S16384x1000, .f32⟩
  | 56 => ⟨S16384x1000, .i1⟩
  | 57 => ⟨S1, .f32⟩
  | 58 => ⟨S_, .f32⟩
  | 59 => ⟨S16384x1000, .f32⟩
  | 60 => ⟨S16384x1000, .i1⟩
  | 61 => ⟨S16384x1000, .i1⟩
  | 62 => ⟨S16384x1000, .i1⟩
  | 63 => ⟨S16384x1000, .f32⟩
  | 64 => ⟨S_, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S16384x1000, .i1⟩
  | 72 => ⟨S16384x1000, .i1⟩
  | 73 => ⟨S16384x1000, .f32⟩
  | 74 => ⟨S16384x1000, .f32⟩
  | 75 => ⟨S_, .f32⟩
  | 76 => ⟨S_, .f32⟩
  | 77 => ⟨S_, .f32⟩
  | 78 => ⟨S_, .f32⟩
  | 79 => ⟨S_, .f32⟩
  | 80 => ⟨S1, .f32⟩
  | 81 => ⟨S_, .f32⟩
  | 82 => ⟨S16384x1000, .f32⟩
  | 83 => ⟨S16384x1000, .i1⟩
  | 84 => ⟨S1, .f32⟩
  | 85 => ⟨S_, .f32⟩
  | 86 => ⟨S16384x1000, .f32⟩
  | 87 => ⟨S16384x1000, .i1⟩
  | 88 => ⟨S16384x1000, .i1⟩
  | 89 => ⟨S16384x1000, .i1⟩
  | 90 => ⟨S16384x1000, .f32⟩
  | 91 => ⟨S_, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S16384x1000, .i1⟩
  | 99 => ⟨S16384x1000, .i1⟩
  | 100 => ⟨S16384x1000, .f32⟩
  | 101 => ⟨S16384x1000, .f32⟩
  | 102 => ⟨S_, .f32⟩
  | 103 => ⟨S_, .f32⟩
  | 104 => ⟨S_, .f32⟩
  | 105 => ⟨S_, .f32⟩
  | 106 => ⟨S_, .f32⟩
  | 107 => ⟨S1, .f32⟩
  | 108 => ⟨S_, .f32⟩
  | 109 => ⟨S16384x1000, .f32⟩
  | 110 => ⟨S16384x1000, .i1⟩
  | 111 => ⟨S1, .f32⟩
  | 112 => ⟨S_, .f32⟩
  | 113 => ⟨S16384x1000, .f32⟩
  | 114 => ⟨S16384x1000, .i1⟩
  | 115 => ⟨S16384x1000, .i1⟩
  | 116 => ⟨S16384x1000, .i1⟩
  | 117 => ⟨S16384x1000, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S16384x1000, .i1⟩
  | 126 => ⟨S16384x1000, .i1⟩
  | 127 => ⟨S16384x1000, .f32⟩
  | _ => ⟨S16384x1000, .f32⟩

abbrev hbmTy0_1 (i : Nat) : BufTy := match i % 128 with
  | 0 => ⟨S16384x1000, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S_, .f32⟩
  | 8 => ⟨S16384x1000, .f32⟩
  | 9 => ⟨S16384x1000, .i1⟩
  | 10 => ⟨S1, .f32⟩
  | 11 => ⟨S_, .f32⟩
  | 12 => ⟨S16384x1000, .f32⟩
  | 13 => ⟨S16384x1000, .i1⟩
  | 14 => ⟨S16384x1000, .i1⟩
  | 15 => ⟨S16384x1000, .i1⟩
  | 16 => ⟨S16384x1000, .f32⟩
  | 17 => ⟨S_, .f32⟩
  | 18 => ⟨S_, .f32⟩
  | 19 => ⟨S_, .f32⟩
  | 20 => ⟨S_, .i1⟩
  | 21 => ⟨S_, .f32⟩
  | 22 => ⟨S_, .f32⟩
  | 23 => ⟨S_, .f32⟩
  | 24 => ⟨S16384x1000, .i1⟩
  | 25 => ⟨S16384x1000, .i1⟩
  | 26 => ⟨S16384x1000, .f32⟩
  | 27 => ⟨S16384x1000, .f32⟩
  | 28 => ⟨S_, .f32⟩
  | 29 => ⟨S_, .f32⟩
  | 30 => ⟨S_, .f32⟩
  | 31 => ⟨S_, .f32⟩
  | 32 => ⟨S_, .f32⟩
  | 33 => ⟨S1, .f32⟩
  | 34 => ⟨S_, .f32⟩
  | 35 => ⟨S16384x1000, .f32⟩
  | 36 => ⟨S16384x1000, .i1⟩
  | 37 => ⟨S1, .f32⟩
  | 38 => ⟨S_, .f32⟩
  | 39 => ⟨S16384x1000, .f32⟩
  | 40 => ⟨S16384x1000, .i1⟩
  | 41 => ⟨S16384x1000, .i1⟩
  | 42 => ⟨S16384x1000, .i1⟩
  | 43 => ⟨S16384x1000, .f32⟩
  | 44 => ⟨S_, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S16384x1000, .i1⟩
  | 52 => ⟨S16384x1000, .i1⟩
  | 53 => ⟨S16384x1000, .f32⟩
  | 54 => ⟨S16384x1000, .f32⟩
  | 55 => ⟨S_, .f32⟩
  | 56 => ⟨S_, .f32⟩
  | 57 => ⟨S_, .f32⟩
  | 58 => ⟨S_, .f32⟩
  | 59 => ⟨S_, .f32⟩
  | 60 => ⟨S1, .f32⟩
  | 61 => ⟨S_, .f32⟩
  | 62 => ⟨S16384x1000, .f32⟩
  | 63 => ⟨S16384x1000, .i1⟩
  | 64 => ⟨S1, .f32⟩
  | 65 => ⟨S_, .f32⟩
  | 66 => ⟨S16384x1000, .f32⟩
  | 67 => ⟨S16384x1000, .i1⟩
  | 68 => ⟨S16384x1000, .i1⟩
  | 69 => ⟨S16384x1000, .i1⟩
  | 70 => ⟨S16384x1000, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S_, .f32⟩
  | 78 => ⟨S16384x1000, .i1⟩
  | 79 => ⟨S16384x1000, .i1⟩
  | 80 => ⟨S16384x1000, .f32⟩
  | 81 => ⟨S16384x1000, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S_, .f32⟩
  | 89 => ⟨S16384x1000, .f32⟩
  | 90 => ⟨S16384x1000, .i1⟩
  | 91 => ⟨S1, .f32⟩
  | 92 => ⟨S_, .f32⟩
  | 93 => ⟨S16384x1000, .f32⟩
  | 94 => ⟨S16384x1000, .i1⟩
  | 95 => ⟨S16384x1000, .i1⟩
  | 96 => ⟨S16384x1000, .i1⟩
  | 97 => ⟨S16384x1000, .f32⟩
  | 98 => ⟨S_, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S16384x1000, .i1⟩
  | 106 => ⟨S16384x1000, .i1⟩
  | 107 => ⟨S16384x1000, .f32⟩
  | 108 => ⟨S16384x1000, .f32⟩
  | 109 => ⟨S_, .f32⟩
  | 110 => ⟨S_, .f32⟩
  | 111 => ⟨S_, .f32⟩
  | 112 => ⟨S_, .f32⟩
  | 113 => ⟨S_, .f32⟩
  | 114 => ⟨S1, .f32⟩
  | 115 => ⟨S_, .f32⟩
  | 116 => ⟨S16384x1000, .f32⟩
  | 117 => ⟨S16384x1000, .i1⟩
  | 118 => ⟨S1, .f32⟩
  | 119 => ⟨S_, .f32⟩
  | 120 => ⟨S16384x1000, .f32⟩
  | 121 => ⟨S16384x1000, .i1⟩
  | 122 => ⟨S16384x1000, .i1⟩
  | 123 => ⟨S16384x1000, .i1⟩
  | 124 => ⟨S16384x1000, .f32⟩
  | 125 => ⟨S_, .f32⟩
  | 126 => ⟨S_, .f32⟩
  | 127 => ⟨S_, .f32⟩
  | _ => ⟨S16384x1000, .f32⟩

abbrev hbmTy0_2 (i : Nat) : BufTy := match i % 128 with
  | 0 => ⟨S_, .i1⟩
  | 1 => ⟨S_, .f32⟩
  | 2 => ⟨S_, .f32⟩
  | 3 => ⟨S_, .f32⟩
  | 4 => ⟨S16384x1000, .i1⟩
  | 5 => ⟨S16384x1000, .i1⟩
  | 6 => ⟨S16384x1000, .f32⟩
  | 7 => ⟨S16384x1000, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S_, .f32⟩
  | 15 => ⟨S16384x1000, .f32⟩
  | 16 => ⟨S16384x1000, .i1⟩
  | 17 => ⟨S1, .f32⟩
  | 18 => ⟨S_, .f32⟩
  | 19 => ⟨S16384x1000, .f32⟩
  | 20 => ⟨S16384x1000, .i1⟩
  | 21 => ⟨S16384x1000, .i1⟩
  | 22 => ⟨S16384x1000, .i1⟩
  | 23 => ⟨S16384x1000, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S16384x1000, .i1⟩
  | 32 => ⟨S16384x1000, .i1⟩
  | 33 => ⟨S16384x1000, .f32⟩
  | 34 => ⟨S16384x1000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .i1⟩
  | 42 => ⟨S_, .f32⟩
  | 43 => ⟨S_, .f32⟩
  | 44 => ⟨S16384x1000, .f32⟩
  | 45 => ⟨S16384x1000, .f32⟩
  | 46 => ⟨S16384x1000, .f32⟩
  | 47 => ⟨S_, .f32⟩
  | 48 => ⟨S16384x1000, .f32⟩
  | 49 => ⟨S16384x1000, .f32⟩
  | 50 => ⟨S16384x1000, .f32⟩
  | 51 => ⟨S16384x1000, .f32⟩
  | 52 => ⟨S16384x1000, .f32⟩
  | 53 => ⟨S16384x1000, .f32⟩
  | 54 => ⟨S16384x1000, .f32⟩
  | 55 => ⟨S16384x1000, .f32⟩
  | 56 => ⟨S16384x1000, .f32⟩
  | 57 => ⟨S16384x1000, .f32⟩
  | 58 => ⟨S_, .f32⟩
  | 59 => ⟨S_, .f32⟩
  | 60 => ⟨S_, .f32⟩
  | _ => ⟨S16384x1000, .f32⟩

abbrev hbmTy (i : Nat) : BufTy := match i / 128 with
  | 0 => hbmTy0_0 i
  | 1 => hbmTy0_1 i
  | 2 => hbmTy0_2 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_v31 : Ref sig .tc := ⟨.hbm, 46, rfl⟩
abbrev main_cst_9 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_v0 : Ref sig .tc := ⟨.hbm, 73, rfl⟩
abbrev main_v52 : Ref sig .tc := ⟨.hbm, 74, rfl⟩
abbrev main_cst_15 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call4_v0 : Ref sig .tc := ⟨.hbm, 100, rfl⟩
abbrev main_v73 : Ref sig .tc := ⟨.hbm, 101, rfl⟩
abbrev main_cst_20 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_22 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_cst_24 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call6_v0 : Ref sig .tc := ⟨.hbm, 127, rfl⟩
abbrev main_v94 : Ref sig .tc := ⟨.hbm, 128, rfl⟩
abbrev main_cst_25 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_27 : Ref sig .tc := ⟨.hbm, 145, rfl⟩
abbrev main_v109 : Ref sig .tc := ⟨.hbm, 146, rfl⟩
abbrev main_cst_28 : Ref sig .tc := ⟨.hbm, 147, rfl⟩
abbrev main_v110 : Ref sig .tc := ⟨.hbm, 148, rfl⟩
abbrev main_cst_29 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call8_v0 : Ref sig .tc := ⟨.hbm, 154, rfl⟩
abbrev main_v115 : Ref sig .tc := ⟨.hbm, 155, rfl⟩
abbrev main_cst_30 : Ref sig .tc := ⟨.hbm, 156, rfl⟩
abbrev main_cst_31 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_32 : Ref sig .tc := ⟨.hbm, 172, rfl⟩
abbrev main_v130 : Ref sig .tc := ⟨.hbm, 173, rfl⟩
abbrev main_cst_33 : Ref sig .tc := ⟨.hbm, 174, rfl⟩
abbrev main_v131 : Ref sig .tc := ⟨.hbm, 175, rfl⟩
abbrev main_cst_34 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_call10_v0 : Ref sig .tc := ⟨.hbm, 181, rfl⟩
abbrev main_v136 : Ref sig .tc := ⟨.hbm, 182, rfl⟩
abbrev main_cst_35 : Ref sig .tc := ⟨.hbm, 183, rfl⟩
abbrev main_cst_36 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_37 : Ref sig .tc := ⟨.hbm, 199, rfl⟩
abbrev main_v151 : Ref sig .tc := ⟨.hbm, 200, rfl⟩
abbrev main_cst_38 : Ref sig .tc := ⟨.hbm, 201, rfl⟩
abbrev main_v152 : Ref sig .tc := ⟨.hbm, 202, rfl⟩
abbrev main_cst_39 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_call12_v0 : Ref sig .tc := ⟨.hbm, 208, rfl⟩
abbrev main_v157 : Ref sig .tc := ⟨.hbm, 209, rfl⟩
abbrev main_cst_40 : Ref sig .tc := ⟨.hbm, 210, rfl⟩
abbrev main_cst_41 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_42 : Ref sig .tc := ⟨.hbm, 226, rfl⟩
abbrev main_v172 : Ref sig .tc := ⟨.hbm, 227, rfl⟩
abbrev main_cst_43 : Ref sig .tc := ⟨.hbm, 228, rfl⟩
abbrev main_v173 : Ref sig .tc := ⟨.hbm, 229, rfl⟩
abbrev main_cst_44 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_call14_v0 : Ref sig .tc := ⟨.hbm, 235, rfl⟩
abbrev main_v178 : Ref sig .tc := ⟨.hbm, 236, rfl⟩
abbrev main_cst_45 : Ref sig .tc := ⟨.hbm, 237, rfl⟩
abbrev main_cst_46 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_47 : Ref sig .tc := ⟨.hbm, 253, rfl⟩
abbrev main_v193 : Ref sig .tc := ⟨.hbm, 254, rfl⟩
abbrev main_cst_48 : Ref sig .tc := ⟨.hbm, 255, rfl⟩
abbrev main_v194 : Ref sig .tc := ⟨.hbm, 256, rfl⟩
abbrev main_cst_49 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_call16_v0 : Ref sig .tc := ⟨.hbm, 262, rfl⟩
abbrev main_v199 : Ref sig .tc := ⟨.hbm, 263, rfl⟩
abbrev main_cst_50 : Ref sig .tc := ⟨.hbm, 264, rfl⟩
abbrev main_cst_51 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_52 : Ref sig .tc := ⟨.hbm, 280, rfl⟩
abbrev main_v214 : Ref sig .tc := ⟨.hbm, 281, rfl⟩
abbrev main_cst_53 : Ref sig .tc := ⟨.hbm, 282, rfl⟩
abbrev main_v215 : Ref sig .tc := ⟨.hbm, 283, rfl⟩
abbrev main_cst_54 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_call18_v0 : Ref sig .tc := ⟨.hbm, 289, rfl⟩
abbrev main_v220 : Ref sig .tc := ⟨.hbm, 290, rfl⟩
abbrev main_cst_55 : Ref sig .tc := ⟨.hbm, 291, rfl⟩
abbrev main_cst_56 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_cst_57 : Ref sig .tc := ⟨.hbm, 296, rfl⟩
abbrev main_v224 : Ref sig .tc := ⟨.hbm, 297, rfl⟩
abbrev main_cst_58 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_cst_59 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_cst_60 : Ref sig .tc := ⟨.hbm, 314, rfl⟩
abbrev main_v239 : Ref sig .tc := ⟨.hbm, 315, rfl⟩
abbrev main_v240 : Ref sig .tc := ⟨.hbm, 316, rfl⟩

abbrev nD : Nat := 1
abbrev τ : Topo := Topo.v7x

variable {F : FTy → Type} [FloatOps F]
-- ==== Proof.Cells.lean ====
/- What one grid point of the kernel leaves in its scalar scratch, cell by cell, and what the last point stores.

   The scratch holds two rows of ten cells.  At each grid point the body adds, to cell `j` of row 0, the number of the
   block's elements whose distance from the target lies below edge `j`, and to cell `j` of row 1 the sum of those
   elements' losses.  The twenty stores of a point are one list of writes, `cells`; the first point puts it on top of the
   list that clears the scratch, and the last point computes the result from the values it stored. -/
module

public import proofs.«01_k».proof.Proof.Gen.KernelIdeal.Frame
public import Idealize.ShloMosaic.Lib.WritesUnit
public import Idealize.ShloMosaic.Lib.Pipeline.Value
public import Idealize.ShloMosaic.Lib.Tactic

@[expose] public section

noncomputable section

namespace Cert.Ghm

open Idealize.ShloMosaic Idealize.ShloMosaic.TcCoe Idealize.SL.Sem
open Cert.KernelIdeal Cert.KernelIdeal.Gen

variable {F : FTy → Type} [FloatOps F] [Named F]

/-! ## The values one point computes -/

/-- The word of zero. -/
abbrev zeroW : F .f32 := FloatOps.ofBits .f32 0x00000000#32

/-- The word of one. -/
abbrev oneW : F .f32 := FloatOps.ofBits .f32 0x3F800000#32

/-- The upper edge of bin `j`, as the kernel's text writes it. -/
def edgeW : ℕ → F .f32
  | 0 => Named.named κ "edge1" 0x3DCCCCCD#32
  | 1 => Named.named κ "edge2" 0x3E4CCCCD#32
  | 2 => Named.named κ "edge3" 0x3E99999A#32
  | 3 => Named.named κ "edge4" 0x3ECCCCCD#32
  | 4 => FloatOps.ofBits .f32 0x3F000000#32
  | 5 => Named.named κ "edge6" 0x3F19999A#32
  | 6 => Named.named κ "edge7" 0x3F333333#32
  | 7 => Named.named κ "edge8" 0x3F4CCCCD#32
  | 8 => Named.named κ "edge9" 0x3F666666#32
  | _ => FloatOps.ofBits .f32 0x3F800008#32

/-- Which elements of a block lie below the edge `e`. -/
def below (x0 x1 : Vec F S512x1000 .f32) (e : F .f32) : IVec S512x1000 1 :=
  cmpf .olt (absf (subf x0 x1)) (broadcast S512x1000 e)

/-- The elements' losses, as the kernel computes them on a block. -/
def bceBlock (x0 x1 : Vec F S512x1000 .f32) : FVec F S512x1000 .f32 :=
  addf (subf (maximumf x0 (broadcast S512x1000 (Scalar.ofBits .f32 0x00000000#32))) (mulf x0 x1))
    (log1p (exp (subf (broadcast S512x1000 (Scalar.ofBits .f32 0x00000000#32)) (absf x0))))

/-- The sum of a block's elements, as the kernel takes it. -/
def total (w : FVec F S512x1000 .f32) : F .f32 :=
  extractAt ![0, 0, 0]
    (shapeCast S1x1x1
      (multiReduction .add [1, 2] S1 (shapeCast S1x512x1000 w shapeCasts_S512x1000_S1x512x1000) 0x00000000#32
        reduces_S1x512x1000_S1 (.inl rfl) rfl)
      shapeCasts_S1_S1x1x1)
    inpos_S1x1x1_p0_0_0

/-- What a point leaves in cell `j` of row 0, which held `v`. -/
def countStep (x0 x1 : Vec F S512x1000 .f32) (j : ℕ) (v : F .f32) : F .f32 :=
  Scalar.addf v (total (sitofp .f32 (extui 32 (below x0 x1 (edgeW j)) natLt_1_32)))

/-- What a point leaves in cell `j` of row 1, which held `v`. -/
def lossStep (x0 x1 : Vec F S512x1000 .f32) (j : ℕ) (v : F .f32) : F .f32 :=
  Scalar.addf v (total (select (below x0 x1 (edgeW j)) (bceBlock x0 x1)
    (broadcast S512x1000 (Scalar.ofBits .f32 0x00000000#32))))

/-- What a point leaves in cell `j` of row `r`, which held `v`. -/
def step (x0 x1 : Vec F S512x1000 .f32) (r j : ℕ) (v : F .f32) : F .f32 :=
  match r with
  | 0 => countStep x0 x1 j v
  | _ => lossStep x0 x1 j v

/-! ## The scratch as a list of one-cell writes -/

theorem cell_inb {r j : ℕ} (hr : r < 2) (hj : j < 10) : ∀ a, (![r, j] : Fin 2 → ℕ) a + S1x1.size a ≤ S2x10.size a := by
  intro a
  fin_cases a
  · exact hr
  · exact hj

/-- A one-cell rectangle has an element. -/
theorem one_pos : 0 < S1x1.numel := by decide

/-- The index of cell `j` of row `r`. -/
def cellIdx (r j : ℕ) (hr : r < 2) (hj : j < 10) : S2x10.Idx :=
  (Rect.unit (s := S2x10) ![r, j] S1x1.size (cell_inb hr hj)).emb (Shape.Idx.first (s := S1x1) one_pos)

/-- The stores into the cells of columns below `n`, newest first, row 1 of a column after its row 0. -/
def cells (G : ℕ → ℕ → F .f32) : (n : ℕ) → n ≤ 10 → List (View.Piece (Elt F) S2x10 .f32)
  | 0, _ => []
  | n + 1, h =>
    ⟨Rect.unit (s := S2x10) ![1, n] S1x1.size (cell_inb Nat.one_lt_two h), fun _ => G 1 n⟩
      :: ⟨Rect.unit (s := S2x10) ![0, n] S1x1.size (cell_inb Nat.two_pos h), fun _ => G 0 n⟩
      :: cells G n (Nat.le_of_succ_le h)

/-- A cell of a stored column reads the value stored there, whatever lies below. -/
theorem read_cells (v : View sig .tc .smem S2x10 .f32) (f : v.ty.Contents (Elt F)) (G : ℕ → ℕ → F .f32)
    (L : List (View.Piece (Elt F) S2x10 .f32)) (y : S2x10.Idx) :
    (n : ℕ) → (h : n ≤ 10) → (y 1).val < n →
      v.read (Elt F) (v.writes (Elt F) f (cells G n h ++ L)) y = G (y 0).val (y 1).val
  | 0, _, hy => absurd hy (Nat.not_lt_zero _)
  | n + 1, h, hy => by
    have h0 : (y 0).val < 2 := (y 0).isLt
    simp only [cells, List.cons_append]
    by_cases hn : (y 1).val = n
    · by_cases hr : (y 0).val = 1
      · rw [View.read_writes_cons_unit_of_mem v f (size := ![1, 1]) (off' := ![1, n]) _ _ _ y (Shape.Idx.first (s := S1x1) one_pos) rfl
          (Fin.forall_fin_two.mpr ⟨hr, hn⟩), hr, hn]
      · have hr0 : (y 0).val = 0 := by omega
        rw [View.read_writes_cons_unit_of_not_mem v f (off' := ![1, n]) _ _ _ y rfl 0 (.inl (by rw [hr0]; exact Nat.one_pos)),
          View.read_writes_cons_unit_of_mem v f (size := ![1, 1]) (off' := ![0, n]) _ _ _ y (Shape.Idx.first (s := S1x1) one_pos) rfl
            (Fin.forall_fin_two.mpr ⟨hr0, hn⟩), hr0, hn]
    · have hlt : (y 1).val < n := by omega
      rw [View.read_writes_cons_unit_of_not_mem v f (off' := ![1, n]) _ _ _ y rfl 1 (.inl hlt),
        View.read_writes_cons_unit_of_not_mem v f (off' := ![0, n]) _ _ _ y rfl 1 (.inl hlt)]
      exact read_cells v f G L y n _ hlt

theorem hz : (![0, 0] : Fin 2 → ℕ) = fun _ => 0 := funext fun a => by fin_cases a <;> rfl

/-- A cell's index is the pair of its coordinates. -/
theorem cellIdx_eq (y : S2x10.Idx) : cellIdx (y 0).val (y 1).val (y 0).isLt (y 1).isLt = y :=
  funext (Fin.forall_fin_two.mpr ⟨rfl, rfl⟩)

/-! ## Each case of the body -/

section cases
variable (c : Dev nD) (i : grid0.Coords) (a1 : Memref sig .tc .vmem S512x1000 .f32) (h1 : a1.IsWhole)
  (a2 : Memref sig .tc .vmem S512x1000 .f32) (h2 : a2.IsWhole) (a3 : Memref sig .tc .smem S1x1 .f32) (h3 : a3.IsWhole)
  (a4 : Memref sig .tc .smem S2x10 .f32) (h4 : a4.IsWhole) (x0 x1 : Vec F S512x1000 .f32) (xs : Vec F S2x10 .f32)

/-- The values a later point stores: each cell's step from what the cell held. -/
def stepFrom (x0 x1 : Vec F S512x1000 .f32) (xs : Vec F S2x10 .f32) (r j : ℕ) : F .f32 :=
  if h : r < 2 ∧ j < 10 then step x0 x1 r j (xs (cellIdx r j h.1 h.2)) else zeroW

/-- The first point's stores: the step from zero, over the stores that clear the scratch. -/
theorem pieces_A (hc0 : cond0_0 i) (hc1 : ¬cond0_1 i) :
    (kernelRun0_A c i a1 h1 a2 h2 a3 h3 a4 h4 hc0 hc1 x0 x1).2.1
      = cells (fun r j => step x0 x1 r j zeroW) 10 le_rfl ++ cells (fun _ _ => zeroW) 10 le_rfl := by
  unfold kernelRun0_A
  dsimp only
  sl_unfold_words
  simp only [View.readAt_eq_ld, h1.read_unread, h2.read_unread, View.ld_unit_zero (S := S512x1000) hz]
  exact rfl

/-- A middle point's stores: the step from what each cell held. -/
theorem pieces_B (hc0 : ¬cond0_0 i) (hc1 : ¬cond0_1 i) :
    (kernelRun0_B c i a1 h1 a2 h2 a3 h3 a4 h4 hc0 hc1 x0 x1 xs).2.1 = cells (stepFrom x0 x1 xs) 10 le_rfl := by
  unfold kernelRun0_B
  dsimp only
  sl_unfold_words
  simp only [View.readAt_eq_ld, h1.read_unread, h2.read_unread, h4.read_unread, View.ld_unit_zero (S := S512x1000) hz]
  exact rfl

/-- The last point's stores into the scratch: the step from what each cell held. -/
theorem pieces_C (hc0 : ¬cond0_0 i) (hc1 : cond0_1 i) :
    (kernelRun0_C c i a1 h1 a2 h2 a3 h3 a4 h4 hc0 hc1 x0 x1 xs).2.1 = cells (stepFrom x0 x1 xs) 10 le_rfl := by
  unfold kernelRun0_C
  dsimp only
  sl_unfold_words
  simp only [View.readAt_eq_ld, h1.read_unread, h2.read_unread, h4.read_unread, View.ld_unit_zero (S := S512x1000) hz]
  exact rfl

/-- What the first point leaves in the scratch. -/
theorem sout_A (hc0 : cond0_0 i) (hc1 : ¬cond0_1 i) (y : S2x10.Idx) :
    sout0_A_0 c i a1 h1 a2 h2 a3 h3 a4 h4 hc0 hc1 x0 x1 y = step x0 x1 (y 0).val (y 1).val zeroW := by
  unfold sout0_A_0
  rw [pieces_A]
  exact read_cells _ _ _ _ y 10 le_rfl (y 1).isLt

theorem stepFrom_idx (y : S2x10.Idx) : stepFrom x0 x1 xs (y 0).val (y 1).val = step x0 x1 (y 0).val (y 1).val (xs y) := by
  have h : (y 0).val < 2 ∧ (y 1).val < 10 := ⟨(y 0).isLt, (y 1).isLt⟩
  rw [stepFrom, dif_pos h, cellIdx_eq]

/-- What a middle point leaves in the scratch. -/
theorem sout_B (hc0 : ¬cond0_0 i) (hc1 : ¬cond0_1 i) (y : S2x10.Idx) :
    sout0_B_0 c i a1 h1 a2 h2 a3 h3 a4 h4 hc0 hc1 x0 x1 xs y = step x0 x1 (y 0).val (y 1).val (xs y) := by
  unfold sout0_B_0
  rw [pieces_B, ← List.append_nil (cells _ _ _), read_cells _ _ _ _ y 10 le_rfl (y 1).isLt, stepFrom_idx]

/-- What the last point leaves in the scratch. -/
theorem sout_C (hc0 : ¬cond0_0 i) (hc1 : cond0_1 i) (y : S2x10.Idx) :
    sout0_C_0 c i a1 h1 a2 h2 a3 h3 a4 h4 hc0 hc1 x0 x1 xs y = step x0 x1 (y 0).val (y 1).val (xs y) := by
  unfold sout0_C_0
  rw [pieces_C, ← List.append_nil (cells _ _ _), read_cells _ _ _ _ y 10 le_rfl (y 1).isLt, stepFrom_idx]

/-! ## The result the last point stores -/

/-- The value before cell `j` of a row: the cell before, or zero. -/
def before (w : ℕ → F .f32) : ℕ → F .f32
  | 0 => zeroW
  | j + 1 => w j

/-- Bin `j`'s number of elements, from the running counts. -/
def binCount (cnt : ℕ → F .f32) (j : ℕ) : F .f32 := Scalar.subf (cnt j) (before cnt j)

/-- Whether bin `j` has elements. -/
def binHas (cnt : ℕ → F .f32) (j : ℕ) : BitVec 1 := Scalar.cmpf .ogt (binCount cnt j) zeroW

/-- The sum of the mean losses of the bins below `n` that have elements. -/
def lossSum (cnt los : ℕ → F .f32) : ℕ → F .f32
  | 0 => zeroW
  | j + 1 =>
    Scalar.addf (lossSum cnt los j)
      (Scalar.select (binHas cnt j)
        (Scalar.divf (Scalar.subf (los j) (before los j)) (Scalar.maximumf (binCount cnt j) oneW)) zeroW)

/-- The number of bins below `n` that have elements. -/
def binsUsed (cnt : ℕ → F .f32) : ℕ → F .f32
  | 0 => zeroW
  | j + 1 => Scalar.addf (binsUsed cnt j) (Scalar.select (binHas cnt j) oneW zeroW)

/-- The result, from the two rows of the scratch. -/
def finish (cnt los : ℕ → F .f32) : F .f32 :=
  Scalar.select (Scalar.cmpf .ogt (binsUsed cnt 10) zeroW)
    (Scalar.divf (lossSum cnt los 10) (Scalar.maximumf (binsUsed cnt 10) oneW)) zeroW

/-- The last point's one store into the output. -/
theorem pieces_out (hc0 : ¬cond0_0 i) (hc1 : cond0_1 i) :
    (kernelRun0_C c i a1 h1 a2 h2 a3 h3 a4 h4 hc0 hc1 x0 x1 xs).1
      = [⟨Rect.unit (s := S1x1) ![0, 0] S1x1.size inb_S1x1_S1x1_0_0,
          fun _ => finish (stepFrom x0 x1 xs 0) (stepFrom x0 x1 xs 1)⟩] := by
  unfold kernelRun0_C
  dsimp only
  sl_unfold_words
  simp only [View.readAt_eq_ld, h1.read_unread, h2.read_unread, h4.read_unread, View.ld_unit_zero (S := S512x1000) hz]
  exact rfl

end cases

end Cert.Ghm
-- ==== Proof.Sums.lean ====
/- The kernel's running sums over the extended reals.

   A point's step adds the block's sum of a function of the elements; over the thirty-two points the blocks make up the
   whole array, so the scratch ends holding, per edge, the number of the array's elements below the edge and the sum of
   their losses. -/
module

public import proofs.«01_k».proof.Proof.Cells
public import Idealize.ShloMosaic.Lib.Pointwise
public import Idealize.ShloMosaic.Lib.ValueIdx
public import Idealize.ShloMosaic.Lib.IdealHost
public import Idealize.ShloMosaic.Lib.Pipeline.ValueKit

@[expose] public section

noncomputable section

namespace Cert.Ghm

open Idealize.ShloMosaic Idealize.ShloMosaic.TcCoe Idealize.SL.Sem
open Cert.KernelIdeal Cert.KernelIdeal.Gen

/-! ## One block -/

/-- The sum the kernel takes of a block is the sum over its indices. -/
theorem total_eq (w : FVec Ideal S512x1000 .f32) : total w = ∑ y : S512x1000.Idx, w y := by
  rw [sum_idx2]
  unfold total
  pointwise

/-- The distance of a prediction from its target. -/
def dist (a b : EReal) : EReal := max (a - b) (-(a - b))

/-- An element's loss. -/
def bce (a b : EReal) : EReal := max a 0 - a * b + Ideal.log1p (Ideal.exp (-(max a (-a))))

/-- The upper edge of bin `j`. -/
def edge : ℕ → EReal
  | 0 => ((1 / 10 : ℝ) : EReal)
  | 1 => ((1 / 5 : ℝ) : EReal)
  | 2 => ((3 / 10 : ℝ) : EReal)
  | 3 => ((2 / 5 : ℝ) : EReal)
  | 4 => ((1 / 2 : ℝ) : EReal)
  | 5 => ((3 / 5 : ℝ) : EReal)
  | 6 => ((7 / 10 : ℝ) : EReal)
  | 7 => ((4 / 5 : ℝ) : EReal)
  | 8 => ((9 / 10 : ℝ) : EReal)
  | _ => ((1048577 / 1048576 : ℝ) : EReal)

/-- What one element adds to cell `j` of row `r`. -/
def elem (r j : ℕ) (a b : EReal) : EReal :=
  if dist a b < edge j then (match r with | 0 => 1 | _ => bce a b) else 0

theorem ofBits_half : Ideal.ofBits .f32 0x3F000000#32 = ((1 / 2 : ℝ) : EReal) := by
  simp [Ideal.ofBits, Ideal.ieee, -EReal.coe_mul]; norm_num

theorem ofBits_last : Ideal.ofBits .f32 0x3F800008#32 = ((1048577 / 1048576 : ℝ) : EReal) := by
  simp [Ideal.ofBits, Ideal.ieee, -EReal.coe_mul]; norm_num

theorem ofBits_zero : Ideal.ofBits .f32 0x00000000#32 = 0 := by simp [Ideal.ofBits, Ideal.ieee]

/-- The named edges and the two literal ones are the bins' edges. -/
theorem edgeW_eq : (j : ℕ) → edgeW (F := Ideal) j = edge j
  | 0 | 1 | 2 | 3 | 5 | 6 | 7 | 8 => rfl
  | 4 => ofBits_half
  | _ + 9 => ofBits_last

theorem below_apply (x0 x1 : Vec Ideal S512x1000 .f32) (e : EReal) (y : S512x1000.Idx) :
    below (F := Ideal) x0 x1 e y = BitVec.ofBool (decide (dist (x0 y) (x1 y) < e)) := rfl

theorem bceBlock_apply (x0 x1 : Vec Ideal S512x1000 .f32) (y : S512x1000.Idx) :
    bceBlock (F := Ideal) x0 x1 y = bce (x0 y) (x1 y) := by
  show max (x0 y) (Ideal.ofBits .f32 0x00000000#32) - x0 y * x1 y
    + Ideal.log1p (Ideal.exp (Ideal.ofBits .f32 0x00000000#32 - max (x0 y) (-(x0 y)))) = _
  rw [ofBits_zero, sub_eq_add_neg 0, zero_add]
  rfl

/-- An element's mark, as a number. -/
theorem mark_apply (x0 x1 : Vec Ideal S512x1000 .f32) (j : ℕ) (y : S512x1000.Idx) :
    (sitofp (F := Ideal) .f32 (extui 32 (below (F := Ideal) x0 x1 (edgeW j)) natLt_1_32) y : EReal)
      = elem 0 j (x0 y) (x1 y) := by
  have e : (sitofp (F := Ideal) .f32 (extui 32 (below (F := Ideal) x0 x1 (edgeW j)) natLt_1_32) y : EReal)
      = (((BitVec.setWidth 32 (BitVec.ofBool (decide (dist (x0 y) (x1 y) < edgeW (F := Ideal) j)))).toInt : ℝ) : EReal) := rfl
  rw [e, edgeW_eq]
  unfold elem
  by_cases h : dist (x0 y) (x1 y) < edge j <;> simp [h]

/-- An element's loss where it is below the edge. -/
theorem part_apply (x0 x1 : Vec Ideal S512x1000 .f32) (r j : ℕ) (y : S512x1000.Idx) :
    (select (below (F := Ideal) x0 x1 (edgeW j)) (bceBlock (F := Ideal) x0 x1)
      (broadcast S512x1000 (Scalar.ofBits (F := Ideal) .f32 0x00000000#32)) y : EReal)
      = elem (r + 1) j (x0 y) (x1 y) := by
  have e : (select (below (F := Ideal) x0 x1 (edgeW j)) (bceBlock (F := Ideal) x0 x1)
      (broadcast S512x1000 (Scalar.ofBits (F := Ideal) .f32 0x00000000#32)) y : EReal)
      = if BitVec.ofBool (decide (dist (x0 y) (x1 y) < edgeW (F := Ideal) j)) = 1#1
        then bceBlock (F := Ideal) x0 x1 y else Ideal.ofBits .f32 0x00000000#32 := rfl
  rw [e, edgeW_eq, bceBlock_apply, ofBits_zero]
  unfold elem
  by_cases h : dist (x0 y) (x1 y) < edge j <;> simp [h]

/-- A point's step adds the block's sum of what the elements add. -/
theorem step_eq (x0 x1 : Vec Ideal S512x1000 .f32) (r j : ℕ) (v : EReal) :
    step (F := Ideal) x0 x1 r j v = v + ∑ y : S512x1000.Idx, elem r j (x0 y) (x1 y) := by
  match r with
  | 0 =>
    refine (congrArg (v + ·) (total_eq _)).trans (congrArg (v + ·) (Finset.sum_congr rfl fun y _ => ?_))
    exact mark_apply x0 x1 j y
  | r + 1 =>
    refine (congrArg (v + ·) (total_eq _)).trans (congrArg (v + ·) (Finset.sum_congr rfl fun y _ => ?_))
    exact part_apply x0 x1 r j y

end Cert.Ghm
-- ==== Proof.Result.lean ====
/- What the kernel's run leaves in its result, over the extended reals.

   The scratch after point `n` holds the sums over the blocks of points `0` to `n`; the blocks of all the points are the
   arrays, row block by row block; the one write-back, at the last point, writes what the last point computed from the
   sums over the whole arrays; the host's reshape hands that one number on. -/
module

public import proofs.«01_k».proof.Proof.Sums

@[expose] public section

noncomputable section

namespace Cert.Ghm

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The predictions. -/
abbrev predOf (c : Dev nD) : S16384x1000.Idx → EReal := m ((c.tc : Thread nD τ).loc main_arg0)

/-- The targets. -/
abbrev targOf (c : Dev nD) : S16384x1000.Idx → EReal := m ((c.tc : Thread nD τ).loc main_arg1)

/-! ## The blocks -/

theorem row_lt (t : Fin 32) (a : Fin 512) : t.val * 512 + a.val < 16384 := by
  have := a.isLt
  have := t.isLt
  omega

theorem point_lt (t : Fin 32) : t.val < cfg0.N := t.isLt.trans_eq N_0.symm

theorem index_in0 : ∀ t : Fin cfg0.N, win0_0.index t 0 = t.val ∧ win0_0.index t 1 = 0 :=
  (by decide +kernel : ∀ t : Fin grid0.N, win0_0.index t 0 = t.val ∧ win0_0.index t 1 = 0)

theorem index_in1 : ∀ t : Fin cfg0.N, win0_1.index t 0 = t.val ∧ win0_1.index t 1 = 0 :=
  (by decide +kernel : ∀ t : Fin grid0.N, win0_1.index t 0 = t.val ∧ win0_1.index t 1 = 0)

/-- Block `t` of the predictions is rows `512 t` to `512 t + 511`. -/
theorem pred_block (c : Dev nD) (t : Fin 32) (a : Fin 512) (b : Fin 1000) :
    (iblk m c 0 ⟨t.val, point_lt t⟩ : Vec Ideal S512x1000 .f32) (ix2 a b)
      = predOf m c (ix2 ⟨t.val * 512 + a.val, row_lt t a⟩ b) := by
  have e := index_in0 ⟨t.val, point_lt t⟩
  unfold iblk
  rw [View.read_apply]
  show predOf m c _ = _
  congr 1
  funext x
  apply Fin.ext
  match x with
  | ⟨0, _⟩ =>
    show win0_0.index ⟨t.val, point_lt t⟩ 0 * 512 + 1 * a.val = t.val * 512 + a.val
    rw [e.1, Nat.one_mul]
  | ⟨1, _⟩ =>
    show win0_0.index ⟨t.val, point_lt t⟩ 1 * 1000 + 1 * b.val = b.val
    rw [e.2, Nat.one_mul, Nat.zero_mul, Nat.zero_add]

/-- Block `t` of the targets is rows `512 t` to `512 t + 511`. -/
theorem targ_block (c : Dev nD) (t : Fin 32) (a : Fin 512) (b : Fin 1000) :
    (iblk m c 1 ⟨t.val, point_lt t⟩ : Vec Ideal S512x1000 .f32) (ix2 a b)
      = targOf m c (ix2 ⟨t.val * 512 + a.val, row_lt t a⟩ b) := by
  have e := index_in1 ⟨t.val, point_lt t⟩
  unfold iblk
  rw [View.read_apply]
  show targOf m c _ = _
  congr 1
  funext x
  apply Fin.ext
  match x with
  | ⟨0, _⟩ =>
    show win0_1.index ⟨t.val, point_lt t⟩ 0 * 512 + 1 * a.val = t.val * 512 + a.val
    rw [e.1, Nat.one_mul]
  | ⟨1, _⟩ =>
    show win0_1.index ⟨t.val, point_lt t⟩ 1 * 1000 + 1 * b.val = b.val
    rw [e.2, Nat.one_mul, Nat.zero_mul, Nat.zero_add]

/-- What the block of point `t` adds to cell `j` of row `r`. -/
def part (c : Dev nD) (r j : ℕ) (t : Fin cfg0.N) : EReal :=
  ∑ y : S512x1000.Idx, elem r j ((iblk m c 0 t : Vec Ideal S512x1000 .f32) y) ((iblk m c 1 t : Vec Ideal S512x1000 .f32) y)

/-- What the whole arrays add to cell `j` of row `r`. -/
def whole (A B : S16384x1000.Idx → EReal) (r j : ℕ) : EReal := ∑ i : S16384x1000.Idx, elem r j (A i) (B i)

/-- The blocks make up the arrays. -/
theorem sum_parts (c : Dev nD) (r j : ℕ) :
    ∑ t : Fin 32, part m c r j ⟨t.val, point_lt t⟩ = whole (predOf m c) (targOf m c) r j := by
  unfold whole part
  refine Eq.symm ((sum_idx2 _).trans ((Fin.sum_univ_tiles 32 512 (by decide) _).trans ?_))
  refine Finset.sum_congr rfl fun t _ => ?_
  refine Eq.symm ((sum_idx2 _).trans ?_)
  refine Finset.sum_congr rfl fun a _ => Finset.sum_congr rfl fun b _ => ?_
  rw [pred_block, targ_block]

/-! ## The scratch, point by point -/

/-- After point `n` the scratch holds the sums over the blocks so far. -/
theorem scratch_eq (c : Dev nD) (y : S2x10.Idx) : (n : ℕ) → (hn : n < cfg0.N) →
    ((outsAt0 m c n hn).2 : Vec Ideal S2x10 .f32) y
      = ∑ t : Fin (n + 1), part m c (y 0).val (y 1).val ⟨t.val, (Nat.lt_succ_iff.mp t.isLt).trans_lt hn⟩
  | 0, hn => by
    have h := outsAt0_A m c ⟨0, hn⟩ (Nat.zero_mod _) (by simp)
    dsimp only at h
    rw [h]
    dsimp only
    rw [sout_A, step_eq, Fin.sum_univ_one]
    exact (congrArg (· + _) ofBits_zero).trans (zero_add _)
  | n + 1, hn => by
    have hN : n + 1 < 32 := hn.trans_eq N_0
    have ih := scratch_eq c y n (Nat.lt_of_succ_lt hn)
    have h0 : ¬(n + 1) % 32 = 0 := by omega
    rw [Fin.sum_univ_castSucc]
    refine Eq.trans ?_ (congrArg (· + part m c (y 0).val (y 1).val ⟨n + 1, hn⟩) ih)
    by_cases h1 : (n + 1) % 32 = 31
    · have h := outsAt0_C m c ⟨n + 1, hn⟩ h0 h1
      dsimp only at h
      rw [h]
      dsimp only
      rw [sout_C, step_eq]
      exact rfl
    · have h := outsAt0_B m c ⟨n + 1, hn⟩ h0 h1
      dsimp only at h
      rw [h]
      dsimp only
      rw [sout_B, step_eq]
      exact rfl

/-- What the last point leaves in the output, from what the point before left in the scratch. -/
theorem out_C (c : Dev nD) (i : grid0.Coords) (a1 : Memref sig .tc .vmem S512x1000 .f32) (h1 : a1.IsWhole)
    (a2 : Memref sig .tc .vmem S512x1000 .f32) (h2 : a2.IsWhole) (a3 : Memref sig .tc .smem S1x1 .f32) (h3 : a3.IsWhole)
    (a4 : Memref sig .tc .smem S2x10 .f32) (h4 : a4.IsWhole) (x0 x1 : Vec Ideal S512x1000 .f32) (xs : Vec Ideal S2x10 .f32)
    (hc0 : ¬cond0_0 i) (hc1 : cond0_1 i) :
    out0_C_2 c i a1 h1 a2 h2 a3 h3 a4 h4 hc0 hc1 x0 x1 xs
      = fun _ => finish (stepFrom x0 x1 xs 0) (stepFrom x0 x1 xs 1) := by
  unfold out0_C_2
  rw [View.read_writes_eq_canon _ _ _ (cover0_C_2 c i a1 h1 a2 h2 a3 h3 a4 h4 hc0 hc1 x0 x1 xs), pieces_out,
    View.canon_unit_zero hz]
  exact rfl

/-- The last grid point. -/
abbrev lastPt : Fin cfg0.N := ⟨31, lt_of_lt_of_eq (by decide : 31 < 32) (show 32 = cfg0.N from N_0.symm)⟩

/-- The result reads ten cells of each row. -/
theorem finish_congr {f f' g g' : ℕ → EReal} (hf : ∀ j < 10, f j = f' j) (hg : ∀ j < 10, g j = g' j) :
    finish (F := Ideal) f g = finish (F := Ideal) f' g' := by
  have hb : ∀ j < 10, before (F := Ideal) f j = before (F := Ideal) f' j ∧ before (F := Ideal) g j = before (F := Ideal) g' j
    | 0, _ => ⟨rfl, rfl⟩
    | j + 1, h => ⟨hf j (by omega), hg j (by omega)⟩
  have hc : ∀ j < 10, binCount (F := Ideal) f j = binCount (F := Ideal) f' j := fun j h => by
    unfold binCount; rw [hf j h, (hb j h).1]
  have hh : ∀ j < 10, binHas (F := Ideal) f j = binHas (F := Ideal) f' j := fun j h => by
    unfold binHas; rw [hc j h]
  have hl : ∀ n ≤ 10, lossSum (F := Ideal) f g n = lossSum (F := Ideal) f' g' n := fun n => by
    induction n with
    | zero => exact fun _ => rfl
    | succ n ih => intro h; unfold lossSum; rw [ih (by omega), hh n h, hc n h, hg n h, (hb n h).2]
  have hu : ∀ n ≤ 10, binsUsed (F := Ideal) f n = binsUsed (F := Ideal) f' n := fun n => by
    induction n with
    | zero => exact fun _ => rfl
    | succ n ih => intro h; unfold binsUsed; rw [ih (by omega), hh n h]
  unfold finish
  rw [hl 10 le_rfl, hu 10 le_rfl]

/-- The one number the kernel computes, from the arrays. -/
def kernelResult (A B : S16384x1000.Idx → EReal) : EReal :=
  finish (F := Ideal) (whole A B 0) (whole A B 1)

/-- What the last point leaves in the output. -/
theorem last_eq (c : Dev nD) :
    ((outsAt0 m c 31 lastPt.isLt).1 : Vec Ideal S1x1 .f32) = fun _ => kernelResult (predOf m c) (targOf m c) := by
  have h := outsAt0_C m c lastPt (by decide) (by decide)
  dsimp only at h
  rw [h]
  dsimp only
  rw [out_C]
  funext _
  have key : ∀ (r j : ℕ) (hr : r < 2) (hj : j < 10),
      stepFrom (F := Ideal) (iblk m c 0 lastPt) (iblk m c 1 lastPt) (outsAt0 m c 30 (Nat.lt_of_succ_lt lastPt.isLt)).2 r j
        = whole (predOf m c) (targOf m c) r j := fun r j hr hj => by
    have hy : (cellIdx r j hr hj 0).val = r ∧ (cellIdx r j hr hj 1).val = j := ⟨rfl, rfl⟩
    rw [stepFrom, dif_pos ⟨hr, hj⟩, step_eq, scratch_eq, ← sum_parts]
    exact (Fin.sum_univ_castSucc (n := 31) fun t : Fin 32 => part m c r j ⟨t.val, point_lt t⟩).symm
  exact finish_congr (fun j hj => key 0 j Nat.two_pos hj) (fun j hj => key 1 j Nat.one_lt_two hj)

/-! ## The run -/

/-- An output whose every element the last point left at `v` is an array of `v`. -/
theorem arr_of (c : Dev nD) (v : EReal)
    (h : ((outsAt0 m c 31 lastPt.isLt).1 : Vec Ideal S1x1 .f32) = fun _ => v) :
    (dats m 0 c).arrAt 2 cfg0.N = fun _ => v := by
  refine (dats m 0 c).arrAt_eq_of_after_last 2 lastPt (by decide +kernel) _ fun j => ?_
  rw [(after0_2 m c lastPt).trans h]
  exact rfl

/-- The output array after the region. -/
theorem arr_eq (c : Dev nD) :
    (dats m 0 c).arrAt 2 cfg0.N = fun _ => kernelResult (predOf m c) (targOf m c) :=
  arr_of m c _ (last_eq m c)

/-- The result after the reshape. -/
theorem tail_eq (c : Dev nD) :
    Pipeline.afterTail₀ cfgs (dats m) 0 (V0 m) [hostOps1] c main_v1 = fun _ => kernelResult (predOf m c) (targOf m c) := by
  unfold Pipeline.afterTail₀
  rw [List.flatten_cons, List.flatten_nil, List.append_nil]
  rw [StableHlo.after_cons, StableHlo.after_nil, StableHlo.reshape_result']
  funext i
  show shapeCast _ _ _ _ = _
  have h := Pipeline.withArrays_arr spec0 (by decide) c (V0 m c) (fun w => (dats m 0 c).arrAt w cfg0.N) 2
  have h' := h.trans (arr_eq m c)
  exact congrFun (congrArg (fun f => shapeCast S_ f shapeCasts_S1x1_S_) h') i

/-- The kernel's run: the result is `kernelResult` of the arguments, which stay as they were. -/
theorem run : θ_run defs (onTc (τ := τ) (main (F := Ideal))) ⟨m, fun _ => 0, ρ⟩ fun r => ∀ c : Dev nD,
    r.2.mem ((c.tc : Thread nD τ).loc main_v1) = (fun _ => kernelResult (predOf m c) (targOf m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨
      ((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Ghm
-- ==== Proof.Equation.lean ====
/- The equation between the two ways of computing the loss.

   The kernel counts the elements below each edge and sums their losses; a bin's count and loss are the differences of two
   neighbouring edges' numbers, and the result averages the bins' mean losses over the bins that have elements.  The
   reference gives every element of a bin the weight `T / count`, sums weight times loss over the elements, and divides by
   `T`.  The two are one real number: the bins are disjoint, so an element has the weight of the one bin that it is in; an
   element in no bin weighs zero, whatever its loss; and an element in a bin has a real loss. -/
module

public import proofs.«01_k».proof.Proof.Sums

@[expose] public section

noncomputable section

namespace Cert.Ghm

open Idealize.ShloMosaic
open scoped Classical

/-! ## Sums and quotients of reals among the extended reals -/

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_ite (p : Prop) (x y : ℝ) : ((if p then x else y : ℝ) : EReal) = if p then (x : EReal) else (y : EReal) :=
  apply_ite _ _ _ _

theorem coe_max (x y : ℝ) : ((max x y : ℝ) : EReal) = max (x : EReal) (y : EReal) :=
  EReal.coe_strictMono.monotone.map_max

theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem max_one_ne (x : ℝ) : max x 1 ≠ 0 := (lt_of_lt_of_le zero_lt_one (le_max_right x 1)).ne'

theorem div_max (x y : ℝ) : Ideal.div (x : EReal) (max (y : EReal) 1) = ((x / max y 1 : ℝ) : EReal) := by
  rw [← div_coe x (max_one_ne y), coe_max, EReal.coe_one]

/-! ## The bins -/

/-- The lower edge of bin `j`. -/
def lo : ℕ → EReal
  | 0 => 0
  | j + 1 => edge j

theorem edge_le : (j : ℕ) → edge j ≤ edge (j + 1)
  | 0 | 1 | 2 | 3 | 4 | 5 | 6 | 7 | 8 => EReal.coe_le_coe_iff.mpr (by norm_num)
  | _ + 9 => le_rfl

theorem lo_le_edge : (j : ℕ) → lo j ≤ edge j
  | 0 => by
    show (0 : EReal) ≤ ((1 / 10 : ℝ) : EReal)
    exact_mod_cast (by norm_num : (0 : ℝ) ≤ 1 / 10)
  | j + 1 => edge_le j

theorem lo_mono : Monotone lo := monotone_nat_of_le_succ lo_le_edge

theorem edge_lt_top : (j : ℕ) → edge j < ⊤
  | 0 | 1 | 2 | 3 | 4 | 5 | 6 | 7 | 8 | _ + 9 => EReal.coe_lt_top _

section bins
variable {ι : Type*} [Fintype ι] (D L : ι → EReal)

/-- Element `i` is in bin `j`. -/
def InBin (j : ℕ) (i : ι) : Prop := lo j ≤ D i ∧ D i < edge j

/-- No element is in two bins. -/
theorem not_inBin {j k : ℕ} (h : j < k) {i : ι} (hk : InBin D k i) : ¬InBin D j i := fun hj =>
  absurd (hj.2.trans_le ((lo_mono (Nat.succ_le_of_lt h)).trans hk.1)) (lt_irrefl _)

/-- The number of elements in bin `j`. -/
def cnt (j : ℕ) : ℝ := ∑ i, if InBin D j i then 1 else 0

/-- The sum of the losses of the elements in bin `j`. -/
def los (j : ℕ) : ℝ := ∑ i, if InBin D j i then (L i).toReal else 0

/-- The number of the first `n` bins that have elements. -/
def used (n : ℕ) : ℝ := ∑ j ∈ Finset.range n, if 0 < cnt D j then 1 else 0

/-- The sum of the mean losses of the first `n` bins that have elements. -/
def means (n : ℕ) : ℝ := ∑ j ∈ Finset.range n, if 0 < cnt D j then los D L j / max (cnt D j) 1 else 0

/-- The loss: the average of the bins' mean losses over the bins that have elements. -/
def ghm : ℝ := if 0 < used D 10 then means D L 10 / max (used D 10) 1 else 0

/-! ## The kernel's way -/

/-- What lies below a bin's upper edge, less what lies below its lower edge, is what lies in the bin. -/
theorem sum_diff (f : ι → ℝ) (j : ℕ) :
    (∑ i, if D i < edge j then f i else 0) - (∑ i, if D i < lo j then f i else 0) = ∑ i, if InBin D j i then f i else 0 := by
  rw [← Finset.sum_sub_distrib]
  refine Finset.sum_congr rfl fun i _ => ?_
  unfold InBin
  by_cases h1 : D i < lo j
  · rw [if_pos (h1.trans_le (lo_le_edge j)), if_pos h1, if_neg fun h => absurd h1 h.1.not_gt, sub_self]
  · by_cases h2 : D i < edge j
    · rw [if_pos h2, if_neg h1, if_pos ⟨not_lt.mp h1, h2⟩, sub_zero]
    · rw [if_neg h2, if_neg h1, if_neg fun h => h2 h.2, sub_zero]

variable {D L} (hD : ∀ i, 0 ≤ D i) (hL : ∀ i, D i < ⊤ → ∃ r : ℝ, L i = r)
include hD

/-- A cell that holds the sum below its edge has before it the sum below the bin's lower edge. -/
theorem before_eq (f : ι → ℝ) (w : ℕ → EReal) (hw : ∀ j, w j = ((∑ i, if D i < edge j then f i else 0 : ℝ) : EReal)) :
    (j : ℕ) → before (F := Ideal) w j = ((∑ i, if D i < lo j then f i else 0 : ℝ) : EReal)
  | 0 => by
    have e : (∑ i, if D i < lo 0 then f i else 0 : ℝ) = 0 := Finset.sum_eq_zero fun i _ => if_neg (hD i).not_gt
    rw [e]
    exact ofBits_zero
  | j + 1 => hw j

/-- Neighbouring cells' difference is the bin's sum. -/
theorem sub_before_eq (f : ι → ℝ) (w : ℕ → EReal) (hw : ∀ j, w j = ((∑ i, if D i < edge j then f i else 0 : ℝ) : EReal))
    (j : ℕ) : w j - before (F := Ideal) w j = ((∑ i, if InBin D j i then f i else 0 : ℝ) : EReal) := by
  rw [before_eq hD f w hw, hw, ← EReal.coe_sub, sum_diff]

section finish
variable {C S : ℕ → EReal} (hC : ∀ j, C j = ((∑ i, if D i < edge j then 1 else 0 : ℝ) : EReal))
  (hS : ∀ j, S j = ((∑ i, if D i < edge j then (L i).toReal else 0 : ℝ) : EReal))
include hC

theorem binCount_eq (j : ℕ) : binCount (F := Ideal) C j = (cnt D j : EReal) := sub_before_eq hD _ C hC j

theorem binHas_eq (j : ℕ) : binHas (F := Ideal) C j = BitVec.ofBool (decide (0 < cnt D j)) := by
  have e : binHas (F := Ideal) C j
      = BitVec.ofBool (decide (binCount (F := Ideal) C j > Ideal.ofBits .f32 0x00000000#32)) := rfl
  rw [e, binCount_eq hD hC, ofBits_zero]
  congr 1
  exact decide_eq_decide.mpr EReal.coe_pos

theorem select_has (j : ℕ) (x y : EReal) :
    Scalar.select (binHas (F := Ideal) C j) x y = if 0 < cnt D j then x else y := by
  rw [binHas_eq hD hC]
  unfold Scalar.select
  by_cases h : 0 < cnt D j <;> simp [h]

theorem binsUsed_eq (n : ℕ) : binsUsed (F := Ideal) C n = (used D n : EReal) := by
  induction n with
  | zero =>
    unfold used
    rw [Finset.sum_range_zero]
    exact ofBits_zero
  | succ n ih =>
    have e : binsUsed (F := Ideal) C (n + 1) = binsUsed (F := Ideal) C n
        + Scalar.select (binHas (F := Ideal) C n) (Ideal.ofBits .f32 0x3F800000#32) (Ideal.ofBits .f32 0x00000000#32) := rfl
    rw [e, ih, select_has hD hC, ofBits_zero, Ideal.ofBits_one_f32]
    unfold used
    rw [Finset.sum_range_succ, EReal.coe_add, coe_ite, EReal.coe_one, EReal.coe_zero]

include hS

theorem lossSum_eq (n : ℕ) : lossSum (F := Ideal) C S n = (means D L n : EReal) := by
  induction n with
  | zero =>
    unfold means
    rw [Finset.sum_range_zero]
    exact ofBits_zero
  | succ n ih =>
    have e : lossSum (F := Ideal) C S (n + 1) = lossSum (F := Ideal) C S n
        + Scalar.select (binHas (F := Ideal) C n)
          (Ideal.div (S n - before (F := Ideal) S n) (max (binCount (F := Ideal) C n) (Ideal.ofBits .f32 0x3F800000#32)))
          (Ideal.ofBits .f32 0x00000000#32) := rfl
    rw [e, ih, select_has hD hC, ofBits_zero, Ideal.ofBits_one_f32, binCount_eq hD hC, sub_before_eq hD _ S hS, div_max]
    unfold means
    rw [Finset.sum_range_succ, EReal.coe_add, coe_ite, EReal.coe_zero]
    rfl

/-- What the last point computes from the sums below the edges is the loss. -/
theorem finish_eq : finish (F := Ideal) C S = (ghm D L : EReal) := by
  have e : finish (F := Ideal) C S
      = Scalar.select (BitVec.ofBool (decide (binsUsed (F := Ideal) C 10 > Ideal.ofBits .f32 0x00000000#32)))
        (Ideal.div (lossSum (F := Ideal) C S 10) (max (binsUsed (F := Ideal) C 10) (Ideal.ofBits .f32 0x3F800000#32)))
        (Ideal.ofBits .f32 0x00000000#32) := rfl
  rw [e, binsUsed_eq hD hC, lossSum_eq hD hC hS, ofBits_zero, Ideal.ofBits_one_f32, div_max]
  unfold Scalar.select ghm
  rw [coe_ite, EReal.coe_zero]
  by_cases h : 0 < used D 10
  · rw [if_pos h, decide_eq_true (EReal.coe_pos.mpr h)]
    exact rfl
  · rw [if_neg h, decide_eq_false fun h' => h (EReal.coe_pos.mp h')]
    exact rfl

end finish

/-! ## The reference's way -/

omit hD

/-- The weights after the first `n` bins, each bin overwriting its elements' weights. -/
def wt (D : ι → EReal) (T : EReal) : ℕ → ι → EReal
  | 0, _ => 0
  | n + 1, i => if InBin D n i ∧ 0 < cnt D n then Ideal.div T (max (cnt D n : EReal) 1) else wt D T n i

theorem wt_succ (D : ι → EReal) (T : EReal) (n : ℕ) (i : ι) : wt D T (n + 1) i
    = if InBin D n i ∧ 0 < cnt D n then Ideal.div T (max (cnt D n : EReal) 1) else wt D T n i := rfl

/-- The weights as sums over the bins. -/
def wtR (D : ι → EReal) (T : ℝ) (n : ℕ) (i : ι) : ℝ :=
  ∑ j ∈ Finset.range n, if InBin D j i ∧ 0 < cnt D j then T / max (cnt D j) 1 else 0

theorem wt_eq (T : ℝ) (n : ℕ) (i : ι) : wt D T n i = (wtR D T n i : EReal) := by
  induction n with
  | zero => exact EReal.coe_zero.symm
  | succ n ih =>
    unfold wt wtR
    rw [Finset.sum_range_succ]
    by_cases h : InBin D n i ∧ 0 < cnt D n
    · rw [if_pos h, if_pos h, div_max, Finset.sum_eq_zero, zero_add]
      exact fun j hj => if_neg fun h' => not_inBin D (Finset.mem_range.mp hj) h.1 h'.1
    · rw [if_neg h, if_neg h, add_zero]
      exact ih

theorem used_nonneg_zero (h : ¬0 < used D 10) (j : ℕ) (hj : j < 10) : ¬0 < cnt D j := fun hc =>
  h (Finset.sum_pos' (fun k _ => by split_ifs <;> norm_num)
    ⟨j, Finset.mem_range.mpr hj, by rw [if_pos hc]; exact zero_lt_one⟩)

/-- An element with a weight has a real loss. -/
theorem wt_mul (hL : ∀ i, D i < ⊤ → ∃ r : ℝ, L i = r) (T : ℝ) (k : ℝ) (i : ι) :
    ((wtR D T 10 i / k : ℝ) : EReal) * L i = ((wtR D T 10 i / k * (L i).toReal : ℝ) : EReal) := by
  by_cases h : ∃ j, InBin D j i
  · obtain ⟨j, hj⟩ := h
    obtain ⟨r, hr⟩ := hL i (hj.2.trans (edge_lt_top j))
    rw [hr, EReal.toReal_coe, EReal.coe_mul]
  · have e : wtR D T 10 i = 0 := Finset.sum_eq_zero fun j _ => if_neg fun h' => h ⟨j, h'.1⟩
    rw [e, zero_div, zero_mul, EReal.coe_zero, zero_mul]

/-- The weighted sum, bin by bin. -/
theorem sum_wt (T : ℝ) : ∑ i, wtR D T 10 i * (L i).toReal = T * means D L 10 := by
  unfold wtR means
  simp only [Finset.sum_mul, Finset.mul_sum]
  rw [Finset.sum_comm]
  refine Finset.sum_congr rfl fun j _ => ?_
  unfold los
  by_cases h : 0 < cnt D j
  · rw [if_pos h, Finset.sum_div, Finset.mul_sum]
    refine Finset.sum_congr rfl fun i _ => ?_
    by_cases hi : InBin D j i
    · rw [if_pos ⟨hi, h⟩, if_pos hi]; ring
    · rw [if_neg fun h' => hi h'.1, if_neg hi]; ring
  · rw [if_neg h, mul_zero]
    exact Finset.sum_eq_zero fun i _ => by rw [if_neg fun h' => h h'.2, zero_mul]

/-- The sum of weight times loss over `T` is the loss. -/
theorem weighted_eq (hL : ∀ i, D i < ⊤ → ∃ r : ℝ, L i = r) {T : ℝ} (hT : T ≠ 0) :
    Ideal.div (∑ i, (if 0 < used D 10 then Ideal.div (wt D T 10 i) (max (used D 10 : EReal) 1) else wt D T 10 i) * L i)
      (T : EReal) = (ghm D L : EReal) := by
  unfold ghm
  by_cases h : 0 < used D 10
  · simp only [if_pos h, wt_eq, div_max, wt_mul hL]
    rw [← coe_sum, div_coe _ hT]
    simp only [div_mul_eq_mul_div]
    rw [← Finset.sum_div, sum_wt, div_right_comm, mul_div_cancel_left₀ _ hT]
  · have e : ∀ i, wtR D T 10 i = 0 := fun i =>
      Finset.sum_eq_zero fun j hj => if_neg fun h' => used_nonneg_zero h j (Finset.mem_range.mp hj) h'.2
    simp only [if_neg h, wt_eq, e, EReal.coe_zero, zero_mul, Finset.sum_const_zero]
    rw [← EReal.coe_zero, div_coe _ hT, zero_div]

end bins

/-! ## An element's distance and loss -/

theorem dist_nonneg (a b : EReal) : 0 ≤ dist a b := by
  unfold dist
  rcases le_total 0 (a - b) with h | h
  · exact h.trans (le_max_left _ _)
  · exact (EReal.neg_nonneg.mpr h).trans (le_max_right _ _)

/-- At a finite distance the loss is a real number. -/
theorem bce_real (a b : EReal) (h : dist a b < ⊤) : ∃ r : ℝ, bce a b = r := by
  have e : ∀ x : EReal, max x (-x) < ⊤ → x ≠ ⊤ ∧ x ≠ ⊥ := fun x hx =>
    ⟨fun e => by simp [e] at hx, fun e => by simp [e] at hx⟩
  have hab := e _ h
  induction a with
  | bot => exact absurd (EReal.bot_sub _) hab.2
  | top =>
    induction b with
    | bot => exact absurd rfl hab.1
    | top => exact absurd rfl hab.2
    | coe y => exact absurd rfl hab.1
  | coe x =>
    induction b with
    | bot => exact absurd rfl hab.1
    | top => exact absurd rfl hab.2
    | coe y =>
      refine ⟨max x 0 - x * y + Real.log (1 + Real.exp (-(max x (-x)))), ?_⟩
      have hp : ¬1 + Real.exp (-(max x (-x))) ≤ 0 := not_le.mpr (add_pos zero_lt_one (Real.exp_pos _))
      have e1 : Ideal.exp (-(max (x : EReal) (-(x : EReal)))) = ((Real.exp (-(max x (-x))) : ℝ) : EReal) := by
        rw [← EReal.coe_neg, ← coe_max, ← EReal.coe_neg]
        exact rfl
      have e2 : Ideal.log1p ((Real.exp (-(max x (-x))) : ℝ) : EReal)
          = ((Real.log (1 + Real.exp (-(max x (-x)))) : ℝ) : EReal) := by
        unfold Ideal.log1p
        rw [← EReal.coe_one, ← EReal.coe_add]
        exact if_neg hp
      unfold bce
      rw [e1, e2, EReal.coe_add, EReal.coe_sub, EReal.coe_mul, coe_max, EReal.coe_zero]

end Cert.Ghm
-- ==== Proof.Ref.lean ====
/- What the reference computes, over the extended reals.

   The reference's result is one term of its arguments; its ten bins are one function of the bin here, and its weights the
   ten overwritings in turn.  Read element by element, it is the sum of weight times loss over the number of elements. -/
module

public import proofs.«01_k».proof.Proof.Equation
public import proofs.«01_k».proof.Proof.Gen.ReferenceIdeal.Run
public import Idealize.ShloMosaic.Lib.Routing.OpsOne

@[expose] public section

noncomputable section

namespace Cert.Ghm.Ref

open Idealize.ShloMosaic Idealize.ShloMosaic.TcCoe Idealize.SL.Sem
open Cert.ReferenceIdeal Cert.ReferenceIdeal.Gen Cert.ReferenceIdeal.Value
open ValueIdx (hostDivf_apply hostReduceAdd_apply broadcastInDim_scalar_apply iotaInDim_apply)
open scoped Classical

variable {F : FTy → Type} [FloatOps F]

/-! ## The reference's term, bin by bin -/

theorem slice_ok {k : ℕ} (h : k < 11) : S11.Slices ![k] S1 :=
  ⟨rfl, fun a => match a with | ⟨0, _⟩ => h⟩

/-- Edge `k`, as a scalar array. -/
def edgeAt (E : Vec F S11 .f32) (k : ℕ) (h : k < 11) : Vec F S_ .f32 :=
  shapeCast S_ (extractStridedSlice S1 ![k] E (slice_ok h)) shapeCasts_S1_S_

/-- A scalar array spread over the elements. -/
abbrev spread {α : Type} (x : S_.Idx → α) : S16384x1000.Idx → α := broadcastInDim S16384x1000 ![] bcast_S_S16384x1000 x

/-- Which elements bin `k` takes, from the distances and the elements that count. -/
def mask (E : Vec F S11 .f32) (G : Vec F S16384x1000 .f32) (V : IVec S16384x1000 1) (k : ℕ) (h : k < 10) : IVec S16384x1000 1 :=
  andi (andi (cmpf .oge G (spread (edgeAt E k (Nat.lt_succ_of_lt h)))) (cmpf .olt G (spread (edgeAt E (k + 1) (Nat.succ_lt_succ h))))) V

/-- The number of elements of a mask. -/
def count (M : IVec S16384x1000 1) : Vec F S_ .f32 :=
  Host.reduceAdd (uitofp .f32 M) (constant S_ .f32 0x00000000#32) reducesTo_S16384x1000_S_d0_1 h_S_

/-- Whether a mask has elements. -/
def has (F : FTy → Type) [FloatOps F] (M : IVec S16384x1000 1) : IVec S_ 1 :=
  cmpf .ogt (count (F := F) M) (constant S_ .f32 0x00000000#32)

/-- The weights after the first `n` bins. -/
def weights (M : (k : ℕ) → k < 10 → IVec S16384x1000 1) (T : Vec F S_ .f32) : (n : ℕ) → n ≤ 10 → Vec F S16384x1000 .f32
  | 0, _ => spread (constant S_ .f32 0x00000000#32)
  | n + 1, h =>
    select (andi (M n h) (spread (has F (M n h))))
      (spread (Host.divf T (maximumf (count (M n h)) (constant S_ .f32 0x3F800000#32))))
      (weights M T n (Nat.le_of_succ_le h))

/-- The number of the first `n` bins that have elements. -/
def filled (M : (k : ℕ) → k < 10 → IVec S16384x1000 1) : (n : ℕ) → n ≤ 10 → Vec F S_ .f32
  | 0, _ => constant S_ .f32 0x00000000#32
  | n + 1, h =>
    addf (filled M n (Nat.le_of_succ_le h))
      (id (select (has F (M n h)) (constant S_ .f32 0x3F800000#32) (constant S_ .f32 0x00000000#32)))

section terms
variable (V0 : Valuation τ sig (Elt F))

/-- The reference's ten masks. -/
def masks (k : ℕ) (h : k < 10) : IVec S16384x1000 1 := mask (res_main_v4 V0) (res_main_v8 V0) (res_main_v10 V0) k h

theorem weights_term : res_main_v220 V0 = weights (masks V0) (res_main_v13 V0) 10 le_rfl := by
  exact rfl

theorem filled_term : res_main_v223 V0 = filled (masks V0) 10 le_rfl := by
  exact rfl

end terms

/-! ## Over the extended reals -/

/-- A one-element slice as a scalar reads its element. -/
theorem edgeAt_apply (E : Vec Ideal S11 .f32) (k : ℕ) (h : k < 11) (i : S_.Idx) :
    edgeAt (F := Ideal) E k h i = E (ValueIdx.ix1 ⟨k, h⟩) := by
  unfold edgeAt
  rw [ValueIdx.eq_ix0 i]
  pointwise
  exact congrArg E (funext fun a => match a with | ⟨0, _⟩ => rfl)

theorem spread_apply {α : Type} (x : S_.Idx → α) (i : S16384x1000.Idx) : spread x i = x ValueIdx.ix0 :=
  broadcastInDim_scalar_apply _ x i

theorem gt_zero_apply (c : Vec Ideal S_ .f32) (j : S_.Idx) :
    cmpf (F := Ideal) .ogt c (constant S_ .f32 0x00000000#32) j = BitVec.ofBool (decide (0 < c j)) := by
  have e : cmpf (F := Ideal) .ogt c (constant S_ .f32 0x00000000#32) j
      = BitVec.ofBool (decide (c j > Ideal.ofBits .f32 0x00000000#32)) := rfl
  rw [e, ofBits_zero]

theorem max_one_apply (c : Vec Ideal S_ .f32) (j : S_.Idx) :
    maximumf (F := Ideal) c (constant S_ .f32 0x3F800000#32) j = max (c j) 1 := by
  have e : maximumf (F := Ideal) c (constant S_ .f32 0x3F800000#32) j = max (c j) (Ideal.ofBits .f32 0x3F800000#32) := rfl
  rw [e, Ideal.ofBits_one_f32]

theorem mask_apply (E : Vec Ideal S11 .f32) (G : Vec Ideal S16384x1000 .f32) (V : IVec S16384x1000 1) (k : ℕ) (h : k < 10)
    (i : S16384x1000.Idx) : mask (F := Ideal) E G V k h i
      = (BitVec.ofBool (decide (E (ValueIdx.ix1 ⟨k, Nat.lt_succ_of_lt h⟩) ≤ G i))
        &&& BitVec.ofBool (decide (G i < E (ValueIdx.ix1 ⟨k + 1, Nat.succ_lt_succ h⟩)))) &&& V i := by
  have e : mask (F := Ideal) E G V k h i
      = (BitVec.ofBool (decide (spread (edgeAt (F := Ideal) E k (Nat.lt_succ_of_lt h)) i ≤ G i))
        &&& BitVec.ofBool (decide (G i < spread (edgeAt (F := Ideal) E (k + 1) (Nat.succ_lt_succ h)) i))) &&& V i := rfl
  rw [e, spread_apply, spread_apply, edgeAt_apply, edgeAt_apply]

/-- A mask's number of elements. -/
theorem count_apply (M : IVec S16384x1000 1) (j : S_.Idx) :
    count (F := Ideal) M j = ∑ i : S16384x1000.Idx, (((M i).toNat : ℝ) : EReal) := by
  unfold count
  rw [hostReduceAdd_apply, Ideal.hostReduceAdd_total _ (fun b => b.elim0)]
  exact (congrArg (· + _) ofBits_zero).trans (zero_add _)

theorem weights_succ (M : (k : ℕ) → k < 10 → IVec S16384x1000 1) (T : Vec Ideal S_ .f32) (n : ℕ) (h : n + 1 ≤ 10)
    (i : S16384x1000.Idx) : weights (F := Ideal) M T (n + 1) h i
      = if M n h i &&& has Ideal (M n h) ValueIdx.ix0 = 1#1
        then Ideal.div (T ValueIdx.ix0) (max (count (F := Ideal) (M n h) ValueIdx.ix0) 1)
        else weights (F := Ideal) M T n (Nat.le_of_succ_le h) i := by
  have e : weights (F := Ideal) M T (n + 1) h i
      = if M n h i &&& spread (has Ideal (M n h)) i = 1#1
        then spread (Host.divf (F := Ideal) T (maximumf (count (F := Ideal) (M n h)) (constant S_ .f32 0x3F800000#32))) i
        else weights (F := Ideal) M T n (Nat.le_of_succ_le h) i := rfl
  rw [e, spread_apply, spread_apply, hostDivf_apply, max_one_apply]

theorem filled_succ (M : (k : ℕ) → k < 10 → IVec S16384x1000 1) (n : ℕ) (h : n + 1 ≤ 10) (j : S_.Idx) :
    filled (F := Ideal) M (n + 1) h j
      = filled (F := Ideal) M n (Nat.le_of_succ_le h) j + if has Ideal (M n h) j = 1#1 then 1 else 0 := by
  have e (p : IVec S_ 1) (a b w : FVec Ideal S_ .f32) :
      addf w (id (select p a b)) j = w j + if p j = 1#1 then a j else b j := rfl
  have e1 : constant (F := Ideal) S_ .f32 0x3F800000#32 j = 1 := Ideal.ofBits_one_f32
  have e0 : constant (F := Ideal) S_ .f32 0x00000000#32 j = 0 := ofBits_zero
  rw [filled, e, e1, e0]

theorem ofBits_ten : Ideal.ofBits .f32 0x41200000#32 = ((10 : ℝ) : EReal) := by
  simp [Ideal.ofBits, Ideal.ieee, -EReal.coe_mul]; norm_num

/-- The inner edges are tenths. -/
theorem lo_tenth : (k : ℕ) → k < 10 → lo k = ((k / 10 : ℝ) : EReal)
  | 0, _ => by simp [lo]
  | 1, _ | 2, _ | 3, _ | 4, _ | 5, _ | 6, _ | 7, _ | 8, _ | 9, _ => congrArg Real.toEReal (by norm_num)
  | k + 10, h => absurd h (by omega)

section result
variable (V0 : Valuation τ sig (Elt Ideal))

/-- The reference's edges are the bins' edges. -/
theorem edges_eq (k : ℕ) (h : k < 11) : (res_main_v4 V0 : Vec Ideal S11 .f32) (ValueIdx.ix1 ⟨k, h⟩) = lo k := by
  have lands := Routing.lands_one scatter_S11_S1_S__n_0_0_0 rfl rfl
    (broadcastInDim S1 ![] bcast_S_S1 (constantI S_ 32 10#32)) (10 : Fin 11) rfl ⟨k, h⟩
  unfold res_main_v4
  by_cases e : k = 10
  · subst e
    refine (Routing.scatter_set_hit _ _ _ _ _ (Ideal.ofBits .f32 0x3F800008#32) (fun _ _ => rfl) ValueIdx.ix0 (lands.mpr rfl)).trans ?_
    exact ofBits_last
  · refine (Routing.scatter_set_miss _ _ _ _ _ fun j hj => e ?_).trans ?_
    · rw [ValueIdx.eq_ix0 j] at hj
      exact congrArg Fin.val (lands.mp hj)
    · have hk : k < 10 := by omega
      rw [lo_tenth k hk, hostDivf_apply, broadcastInDim_scalar_apply]
      show Ideal.div (((BitVec.ofNat 32 k).toInt : ℝ) : EReal) (Ideal.ofBits .f32 0x41200000#32) = _
      have hi : (BitVec.ofNat 32 k).toInt = (k : ℤ) := StableHlo.Predicate.toInt_ofNat_small _ (by omega)
      rw [ofBits_ten, div_coe _ (by norm_num), hi]
      exact congrArg (fun x : ℝ => ((x / 10 : ℝ) : EReal)) (Int.cast_natCast k)

/-- The predictions. -/
abbrev pred : S16384x1000.Idx → EReal := V0 (Proc.devRef .tc main_arg0)

/-- The targets. -/
abbrev targ : S16384x1000.Idx → EReal := V0 (Proc.devRef .tc main_arg1)

/-- The distances of the predictions from the targets. -/
abbrev dists (i : S16384x1000.Idx) : EReal := dist (pred V0 i) (targ V0 i)

/-- The elements' losses. -/
abbrev losses (i : S16384x1000.Idx) : EReal := bce (pred V0 i) (targ V0 i)

theorem valid_apply (i : S16384x1000.Idx) : res_main_v10 V0 i = 1#1 := by
  have e : res_main_v10 V0 i
      = BitVec.ofBool (decide (Ideal.ofBits .f32 0x3F800000#32 > Ideal.ofBits .f32 0x00000000#32)) := rfl
  rw [e, Ideal.ofBits_one_f32, ofBits_zero, decide_eq_true (zero_lt_one (α := EReal))]
  rfl

theorem dists_apply (i : S16384x1000.Idx) : (res_main_v8 V0 : Vec Ideal S16384x1000 .f32) i = dists V0 i := rfl

/-- The reference's masks are the bins. -/
theorem masks_apply (k : ℕ) (h : k < 10) (i : S16384x1000.Idx) :
    masks V0 k h i = BitVec.ofBool (decide (InBin (dists V0) k i)) := by
  unfold masks
  rw [mask_apply, edges_eq, edges_eq, valid_apply, dists_apply]
  have e : lo (k + 1) = edge k := rfl
  rw [e]
  unfold InBin
  by_cases ha : lo k ≤ dists V0 i <;> by_cases hb : dists V0 i < edge k <;> simp [ha, hb]

/-- A mask's number of elements is the bin's. -/
theorem count_eq (k : ℕ) (h : k < 10) (j : S_.Idx) : count (F := Ideal) (masks V0 k h) j = (cnt (dists V0) k : EReal) := by
  unfold cnt
  rw [count_apply, coe_sum]
  refine Finset.sum_congr rfl fun i _ => ?_
  rw [masks_apply]
  by_cases hi : InBin (dists V0) k i <;> simp [hi]

theorem has_eq (k : ℕ) (h : k < 10) (j : S_.Idx) :
    has Ideal (masks V0 k h) j = BitVec.ofBool (decide (0 < cnt (dists V0) k)) := by
  unfold has
  rw [gt_zero_apply, count_eq]
  congr 1
  exact decide_eq_decide.mpr EReal.coe_pos

/-- The number of elements of the arrays. -/
theorem tot_eq (j : S_.Idx) : (res_main_v13 V0 : Vec Ideal S_ .f32) j = ((16384000 : ℝ) : EReal) := by
  have e : res_main_v13 V0 = maximumf (F := Ideal) (count (F := Ideal) (res_main_v10 V0)) (constant S_ .f32 0x3F800000#32) := rfl
  have h2 : ∑ _i : S16384x1000.Idx, (1 : ℝ) = 16384000 := by
    refine (ValueIdx.sum_idx2 _).trans ?_
    rw [Finset.sum_const, Finset.sum_const, Finset.card_univ, Finset.card_univ, Fintype.card_fin, Fintype.card_fin]
    norm_num
  have h1 : count (F := Ideal) (res_main_v10 V0) j = ((16384000 : ℝ) : EReal) := by
    rw [count_apply, ← h2, coe_sum]
    refine Finset.sum_congr rfl fun i _ => ?_
    rw [valid_apply]
    simp
  rw [e, max_one_apply, h1, ← EReal.coe_one, ← coe_max]
  norm_num

theorem weights_apply (n : ℕ) (h : n ≤ 10) (i : S16384x1000.Idx) :
    weights (F := Ideal) (masks V0) (res_main_v13 V0) n h i = wt (dists V0) ((16384000 : ℝ) : EReal) n i := by
  induction n with
  | zero => exact (spread_apply (constant (F := Ideal) S_ .f32 0x00000000#32) i).trans ofBits_zero
  | succ n ih =>
    rw [weights_succ, tot_eq, count_eq, ih, masks_apply, has_eq, wt_succ]
    by_cases h1 : InBin (dists V0) n i <;> by_cases h2 : 0 < cnt (dists V0) n <;> simp [h1, h2]

theorem filled_apply (n : ℕ) (h : n ≤ 10) (j : S_.Idx) :
    filled (F := Ideal) (masks V0) n h j = (used (dists V0) n : EReal) := by
  induction n with
  | zero =>
    unfold used
    rw [Finset.sum_range_zero]
    exact ofBits_zero
  | succ n ih =>
    rw [filled_succ, ih, has_eq]
    unfold used
    rw [Finset.sum_range_succ, EReal.coe_add, coe_ite, EReal.coe_one, EReal.coe_zero]
    by_cases h2 : 0 < cnt (dists V0) n <;> simp [h2]

end result

/-- The reference's last steps, from the weights, the number of bins, the arrays and the number of elements. -/
def last (W : Vec F S16384x1000 .f32) (N T : Vec F S_ .f32) (A B : Vec F S16384x1000 .f32) : Vec F S_ .f32 :=
  Host.divf (Host.reduceAdd
    (mulf (select (spread (cmpf .ogt N (constant S_ .f32 0x00000000#32)))
        (Host.divf W (spread (maximumf N (constant S_ .f32 0x3F800000#32)))) W)
      (addf (subf (maximumf A (spread (constant S_ .f32 0x00000000#32))) (mulf A B))
        (Host.log1p (Host.exp (Host.negf (Host.absf A))))))
    (constant S_ .f32 0x00000000#32) reducesTo_S16384x1000_S_d0_1 h_S_) T

theorem last_apply (W : Vec Ideal S16384x1000 .f32) (N T : Vec Ideal S_ .f32) (A B : Vec Ideal S16384x1000 .f32) (j : S_.Idx) :
    last (F := Ideal) W N T A B j = Ideal.div (∑ i : S16384x1000.Idx,
      (if 0 < N ValueIdx.ix0 then Ideal.div (W i) (max (N ValueIdx.ix0) 1) else W i) * bce (A i) (B i)) (T j) := by
  unfold last
  rw [hostDivf_apply, hostReduceAdd_apply, Ideal.hostReduceAdd_total _ (fun b => b.elim0)]
  refine congrArg (Ideal.div · (T j)) ((congrArg (· + _) ofBits_zero).trans ((zero_add _).trans
    (Finset.sum_congr rfl fun i _ => ?_)))
  rw [ValueIdx.mulf_apply, ValueIdx.select_apply, spread_apply, gt_zero_apply, hostDivf_apply, spread_apply, max_one_apply]
  congr 1
  · unfold Scalar.select
    by_cases h : 0 < N ValueIdx.ix0 <;> simp [h]
  · rw [ValueIdx.addf_apply, ValueIdx.subf_apply, ValueIdx.maximumf_apply, spread_apply, ValueIdx.mulf_apply]
    refine (congrArg (fun z => max (A i) z - A i * B i + _) ofBits_zero).trans ?_
    exact rfl

/-- The reference's result is the loss. -/
theorem result_eq (V0 : Valuation τ sig (Elt Ideal)) (j : S_.Idx) :
    last (F := Ideal) (res_main_v220 V0) (res_main_v223 V0) (res_main_v13 V0) (pred V0) (targ V0) j
      = (ghm (dists V0) (losses V0) : EReal) := by
  rw [last_apply, weights_term, filled_term, filled_apply, tot_eq,
    ← weighted_eq (D := dists V0) (L := losses V0) (fun i h => bce_real _ _ h) (by norm_num : (16384000 : ℝ) ≠ 0)]
  simp only [weights_apply, EReal.coe_pos]

variable (m : (ℓ : Loc nD τ sig) → Buf (Elt Ideal) ℓ) (ρ : Dev nD → PrngReg)

/-- The reference's run: the result is the loss of the arguments, which stay as they were. -/
theorem run_loss : θ_run defs (onTc (τ := τ) (main (F := Ideal))) ⟨m, fun _ => 0, ρ⟩ fun r => ∀ c : Dev nD,
    r.2.mem ((c.tc : Thread nD τ).loc main_v240)
      = (fun _ => (ghm (dists (StableHlo.launchContents m c)) (losses (StableHlo.launchContents m c)) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨(h c).1.trans (funext fun j => result_eq (StableHlo.launchContents m c) j), (h c).2⟩) (run m ρ)

end Cert.Ghm.Ref
-- ==== Proof.lean ====
/- The proof of the claims in Defs.lean.

   The kernel's counts and sums are those of the elements below each edge; for any arguments they are real, since an element
   at an infinite distance is below no edge.  So the kernel and the reference both end at the one real number `ghm`. -/
module

public import proofs.«01_k».proof.Defs
public import proofs.«01_k».proof.Proof.Gen.Kernel.Frame
public import proofs.«01_k».proof.Proof.Gen.KernelIdeal.Frame
public import proofs.«01_k».proof.Proof.Result
public import proofs.«01_k».proof.Proof.Equation
public import proofs.«01_k».proof.Proof.Ref
public import Idealize.ShloMosaic.Lib.Quiescent

@[expose] public section

noncomputable section

namespace Cert.Ghm

open scoped Classical

/-- The elements' shares in row 0 of the scratch are ones. -/
theorem whole_count (A B : Cert.KernelIdeal.S16384x1000.Idx → EReal) (j : ℕ) :
    whole A B 0 j = ((∑ i, if dist (A i) (B i) < edge j then 1 else 0 : ℝ) : EReal) := by
  rw [coe_sum]
  refine Finset.sum_congr rfl fun i _ => ?_
  unfold elem
  by_cases h : dist (A i) (B i) < edge j
  · rw [if_pos h, if_pos h, EReal.coe_one]
    exact rfl
  · rw [if_neg h, if_neg h, EReal.coe_zero]

/-- The elements' shares in row 1 of the scratch are their losses, which are real below an edge. -/
theorem whole_loss (A B : Cert.KernelIdeal.S16384x1000.Idx → EReal) (j : ℕ) :
    whole A B 1 j = ((∑ i, if dist (A i) (B i) < edge j then (bce (A i) (B i)).toReal else 0 : ℝ) : EReal) := by
  rw [coe_sum]
  refine Finset.sum_congr rfl fun i _ => ?_
  unfold elem
  by_cases h : dist (A i) (B i) < edge j
  · obtain ⟨r, hr⟩ := bce_real (A i) (B i) (h.trans (edge_lt_top j))
    rw [if_pos h, if_pos h, hr, EReal.toReal_coe]
    exact rfl
  · rw [if_neg h, if_neg h, EReal.coe_zero]

/-- The kernel's number is `ghm` of the distances and the losses. -/
theorem kernelResult_eq (A B : Cert.KernelIdeal.S16384x1000.Idx → EReal) :
    kernelResult A B = (ghm (fun i => dist (A i) (B i)) (fun i => bce (A i) (B i)) : EReal) :=
  finish_eq (fun i => dist_nonneg (A i) (B i)) (whole_count A B) (whole_loss A B)

end Cert.Ghm

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The reference leaves its arguments as they were, and has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.Ghm.Ref.run_loss m ρ)

/-- Each named edge is the exact value of the word it stands for. -/
theorem preserves : Cert.preserves_Kernel_KernelIdeal :=
  ⟨IdealRules.named_const.statement Cert.KernelIdeal.κ "edge1" .f32 0x3DCCCCCD#32 _ rfl,
    IdealRules.named_const.statement Cert.KernelIdeal.κ "edge2" .f32 0x3E4CCCCD#32 _ rfl,
    IdealRules.named_const.statement Cert.KernelIdeal.κ "edge3" .f32 0x3E99999A#32 _ rfl,
    IdealRules.named_const.statement Cert.KernelIdeal.κ "edge4" .f32 0x3ECCCCCD#32 _ rfl,
    IdealRules.named_const.statement Cert.KernelIdeal.κ "edge6" .f32 0x3F19999A#32 _ rfl,
    IdealRules.named_const.statement Cert.KernelIdeal.κ "edge7" .f32 0x3F333333#32 _ rfl,
    IdealRules.named_const.statement Cert.KernelIdeal.κ "edge8" .f32 0x3F4CCCCD#32 _ rfl,
    IdealRules.named_const.statement Cert.KernelIdeal.κ "edge9" .f32 0x3F666666#32 _ rfl⟩

/-- From the same arguments, the kernel and the reference end at the same number. -/
theorem algebraic : Cert.algebraic_KernelIdeal_ReferenceIdeal := by
  intro m g m' g' _ hagree
  refine ⟨fun c _ => Cert.Ghm.kernelResult (Cert.Ghm.predOf m c) (Cert.Ghm.targOf m c), Cert.Ghm.run m g, ?_⟩
  refine (θ_run Cert.ReferenceIdeal.defs _ _).mono (fun _ h c => ⟨(h c).1.trans ?_, (h c).2⟩) (Cert.Ghm.Ref.run_loss m' g')
  have hp : Cert.Ghm.Ref.pred (StableHlo.launchContents m' c) = Cert.Ghm.predOf m c := (hagree c).1
  have ht : Cert.Ghm.Ref.targ (StableHlo.launchContents m' c) = Cert.Ghm.targOf m c := (hagree c).2.1
  funext _
  refine Eq.trans ?_ (Cert.Ghm.kernelResult_eq _ _).symm
  rw [← hp, ← ht]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
